-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x29568 : Shape := ⟨3, ![32, 1, 29568]⟩
abbrev S32x1x1 : Shape := ⟨3, ![32, 1, 1]⟩
abbrev S29568x8192 : Shape := ⟨2, ![29568, 8192]⟩
abbrev S8192 : Shape := ⟨1, ![8192]⟩
abbrev S32x1x8192 : Shape := ⟨3, ![32, 1, 8192]⟩
abbrev S32x29568 : Shape := ⟨2, ![32, 29568]⟩
abbrev S32x1 : Shape := ⟨2, ![32, 1]⟩
abbrev S1x8192 : Shape := ⟨2, ![1, 8192]⟩
abbrev S32x8192 : Shape := ⟨2, ![32, 8192]⟩
abbrev S32x896 : Shape := ⟨2, ![32, 896]⟩
abbrev S896x8192 : Shape := ⟨2, ![896, 8192]⟩

abbrev nBuf : Space → Nat
  | .hbm => 11
  | .vmem => 9
  | .smem => 0
  | _ => 0

abbrev bufTy : (tb : Table) → Fin (tcTables nBuf tb) → BufTy
  | .hbm, ⟨0, _⟩ => ⟨S32x1x29568, .fp8e4m3⟩
  | .hbm, ⟨1, _⟩ => ⟨S32x1x1, .f32⟩
  | .hbm, ⟨2, _⟩ => ⟨S29568x8192, .fp8e4m3⟩
  | .hbm, ⟨3, _⟩ => ⟨S8192, .f32⟩
  | .hbm, ⟨4, _⟩ => ⟨S32x1x8192, .bf16⟩
  | .hbm, ⟨5, _⟩ => ⟨S32x29568, .fp8e4m3⟩
  | .hbm, ⟨6, _⟩ => ⟨S32x1, .f32⟩
  | .hbm, ⟨7, _⟩ => ⟨S1x8192, .f32⟩
  | .hbm, ⟨8, _⟩ => ⟨S32x8192, .bf16⟩
  | .hbm, ⟨9, _⟩ => ⟨S32x8192, .bf16⟩
  | .hbm, ⟨10, _⟩ => ⟨S32x1x8192, .bf16⟩
  | .local _ .vmem, ⟨0, _⟩ => ⟨S32x896, .fp8e4m3⟩
  | .local _ .vmem, ⟨1, _⟩ => ⟨S32x896, .fp8e4m3⟩
  | .local _ .vmem, ⟨2, _⟩ => ⟨S32x1, .f32⟩
  | .local _ .vmem, ⟨3, _⟩ => ⟨S896x8192, .fp8e4m3⟩
  | .local _ .vmem, ⟨4, _⟩ => ⟨S896x8192, .fp8e4m3⟩
  | .local _ .vmem, ⟨5, _⟩ => ⟨S1x8192, .f32⟩
  | .local _ .vmem, ⟨6, _⟩ => ⟨S32x8192, .bf16⟩
  | .local _ .vmem, ⟨7, _⟩ => ⟨S32x8192, .bf16⟩
  | .local _ .vmem, ⟨8, _⟩ => ⟨S32x8192, .f32⟩
  | _, _ => ⟨S32x1x29568, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v12 : BitVec 1 := Scalar.cmpi .eq arg0 c32_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x896 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S896x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S32x1x29568 : Shape := ⟨3, ![32, 1, 29568]⟩
abbrev S32x1x1 : Shape := ⟨3, ![32, 1, 1]⟩
abbrev S29568x8192 : Shape := ⟨2, ![29568, 8192]⟩
abbrev S8192 : Shape := ⟨1, ![8192]⟩
abbrev S32x1x8192 : Shape := ⟨3, ![32, 1, 8192]⟩
abbrev S1x1x8192 : Shape := ⟨3, ![1, 1, 8192]⟩

abbrev nBuf : Space → Nat
  | .hbm => 6
  | .vmem => 6
  | .smem => 0
  | _ => 0

abbrev bufTy : (tb : Table) → Fin (tcTables nBuf tb) → BufTy
  | .hbm, ⟨0, _⟩ => ⟨S32x1x29568, .fp8e4m3⟩
  | .hbm, ⟨1, _⟩ => ⟨S32x1x1, .f32⟩
  | .hbm, ⟨2, _⟩ => ⟨S29568x8192, .fp8e4m3⟩
  | .hbm, ⟨3, _⟩ => ⟨S8192, .f32⟩
  | .hbm, ⟨4, _⟩ => ⟨S32x1x8192, .bf16⟩
  | .hbm, ⟨5, _⟩ => ⟨S32x1x8192, .bf16⟩
  | .local _ .vmem, ⟨0, _⟩ => ⟨S32x1x29568, .fp8e4m3⟩
  | .local _ .vmem, ⟨1, _⟩ => ⟨S32x1x1, .f32⟩
  | .local _ .vmem, ⟨2, _⟩ => ⟨S29568x8192, .fp8e4m3⟩
  | .local _ .vmem, ⟨3, _⟩ => ⟨S8192, .f32⟩
  | .local _ .vmem, ⟨4, _⟩ => ⟨S32x1x8192, .bf16⟩
  | .local _ .vmem, ⟨5, _⟩ => ⟨S32x1x8192, .bf16⟩
  | _, _ => ⟨S32x1x29568, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32x1x29568 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S29568x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Blocks.lean ====
/-
  What one grid point of the kernel leaves behind, as a plain function of the blocks it is given.

  The grid runs over 33 blocks of the contracted axis. Every point adds one block product to the accumulator it
  carries in scratch memory; the first point clears the accumulator before that, and the last point scales the
  finished sum, adds the residual and stores the output block.
-/
module

public import proofs.«01_k».proof.Proof.Gen.KernelIdeal.Frame
public import Idealize.ShloMosaic.Lib.Pipeline.Value

@[expose] public section

noncomputable section

namespace Cert.KernelIdeal.Hand

open Cert.KernelIdeal Cert.KernelIdeal.Gen Idealize.ShloMosaic Idealize.ShloMosaic.TcCoe Idealize.SL.Sem

variable {F : FTy → Type} [FloatOps F]

/-- The zero offset of a whole-block access. -/
theorem hz : (![0, 0] : Fin 2 → Nat) = fun _ => 0 := funext fun a => by fin_cases a <;> rfl

/-- The first point leaves one block product, added to the cleared accumulator. -/
theorem scratch_first (c : Dev nD) (i : grid0.Coords)
    (a1 : Memref sig .tc .vmem S32x896 .fp8e4m3) (h1 : a1.IsWhole)
    (a2 : Memref sig .tc .vmem S32x1 .f32) (h2 : a2.IsWhole)
    (a3 : Memref sig .tc .vmem S896x8192 .fp8e4m3) (h3 : a3.IsWhole)
    (a4 : Memref sig .tc .vmem S1x8192 .f32) (h4 : a4.IsWhole)
    (a5 : Memref sig .tc .vmem S32x8192 .bf16) (h5 : a5.IsWhole)
    (a6 : Memref sig .tc .vmem S32x8192 .bf16) (h6 : a6.IsWhole)
    (a7 : Memref sig .tc .vmem S32x8192 .f32) (h7 : a7.IsWhole)
    (hc0 : cond0_0 i) (hc1 : ¬cond0_1 i)
    (x : Vec F S32x896 .fp8e4m3) (xs : Vec F S32x1 .f32) (w : Vec F S896x8192 .fp8e4m3) (ws : Vec F S1x8192 .f32)
    (r : Vec F S32x8192 .bf16) :
    sout0_A_0 c i a1 h1 a2 h2 a3 h3 a4 h4 a5 h5 a6 h6 a7 h7 hc0 hc1 x xs w ws r = k0_pay2 (k0_pay1 (F := F)) x w := by
  unfold sout0_A_0
  rw [View.read_writes_eq_canon _ _ _ (scover0_A_0 c i a1 h1 a2 h2 a3 h3 a4 h4 a5 h5 a6 h6 a7 h7 hc0 hc1 x xs w ws r)]
  unfold kernelRun0_A
  dsimp only
  sl_unfold_words
  rw [View.canon_cons_unit_zero (S := S32x8192) hz, View.readCov_unit_zero (S := S32x8192) _ hz]
  simp only [View.readAt_eq_ld, h1.read_unread, h3.read_unread, h7.read_unread, View.ld_unit_zero (S := S32x8192) hz,
    View.ld_unit_zero (S := S32x896) hz, View.ld_unit_zero (S := S896x8192) hz]

/-- A point between the first and the last adds its block product to the accumulator it finds. -/
theorem scratch_middle (c : Dev nD) (i : grid0.Coords)
    (a1 : Memref sig .tc .vmem S32x896 .fp8e4m3) (h1 : a1.IsWhole)
    (a2 : Memref sig .tc .vmem S32x1 .f32) (h2 : a2.IsWhole)
    (a3 : Memref sig .tc .vmem S896x8192 .fp8e4m3) (h3 : a3.IsWhole)
    (a4 : Memref sig .tc .vmem S1x8192 .f32) (h4 : a4.IsWhole)
    (a5 : Memref sig .tc .vmem S32x8192 .bf16) (h5 : a5.IsWhole)
    (a6 : Memref sig .tc .vmem S32x8192 .bf16) (h6 : a6.IsWhole)
    (a7 : Memref sig .tc .vmem S32x8192 .f32) (h7 : a7.IsWhole)
    (hc0 : ¬cond0_0 i) (hc1 : ¬cond0_1 i)
    (x : Vec F S32x896 .fp8e4m3) (xs : Vec F S32x1 .f32) (w : Vec F S896x8192 .fp8e4m3) (ws : Vec F S1x8192 .f32)
    (r : Vec F S32x8192 .bf16) (acc : Vec F S32x8192 .f32) :
    sout0_B_0 c i a1 h1 a2 h2 a3 h3 a4 h4 a5 h5 a6 h6 a7 h7 hc0 hc1 x xs w ws r acc = k0_pay2 acc x w := by
  unfold sout0_B_0
  rw [View.read_writes_eq_canon _ _ _ (scover0_B_0 c i a1 h1 a2 h2 a3 h3 a4 h4 a5 h5 a6 h6 a7 h7 hc0 hc1 x xs w ws r acc)]
  unfold kernelRun0_B
  dsimp only
  rw [View.canon_unit_zero hz]
  simp only [View.readAt_eq_ld, h1.read_unread, h3.read_unread, h7.read_unread, View.ld_unit_zero (S := S32x8192) hz,
    View.ld_unit_zero (S := S32x896) hz, View.ld_unit_zero (S := S896x8192) hz]

/-- The last point adds its block product to the accumulator it finds, then stores the sum scaled by the row scale and the
    column scale, with the residual added. -/
theorem output_last (c : Dev nD) (i : grid0.Coords)
    (a1 : Memref sig .tc .vmem S32x896 .fp8e4m3) (h1 : a1.IsWhole)
    (a2 : Memref sig .tc .vmem S32x1 .f32) (h2 : a2.IsWhole)
    (a3 : Memref sig .tc .vmem S896x8192 .fp8e4m3) (h3 : a3.IsWhole)
    (a4 : Memref sig .tc .vmem S1x8192 .f32) (h4 : a4.IsWhole)
    (a5 : Memref sig .tc .vmem S32x8192 .bf16) (h5 : a5.IsWhole)
    (a6 : Memref sig .tc .vmem S32x8192 .bf16) (h6 : a6.IsWhole)
    (a7 : Memref sig .tc .vmem S32x8192 .f32) (h7 : a7.IsWhole)
    (hc0 : ¬cond0_0 i) (hc1 : cond0_1 i)
    (x : Vec F S32x896 .fp8e4m3) (xs : Vec F S32x1 .f32) (w : Vec F S896x8192 .fp8e4m3) (ws : Vec F S1x8192 .f32)
    (r : Vec F S32x8192 .bf16) (acc : Vec F S32x8192 .f32) :
    out0_C_5 c i a1 h1 a2 h2 a3 h3 a4 h4 a5 h5 a6 h6 a7 h7 hc0 hc1 x xs w ws r acc = k0_pay3 (k0_pay2 acc x w) xs ws r := by
  unfold out0_C_5
  rw [View.read_writes_eq_canon _ _ _ (cover0_C_5 c i a1 h1 a2 h2 a3 h3 a4 h4 a5 h5 a6 h6 a7 h7 hc0 hc1 x xs w ws r acc)]
  unfold kernelRun0_C
  dsimp only
  sl_unfold_words
  rw [View.canon_unit_zero hz, View.readCov_unit_zero (S := S32x8192) _ hz]
  simp only [View.readAt_eq_ld, h1.read_unread, h2.read_unread, h3.read_unread, h4.read_unread, h5.read_unread, h7.read_unread, View.ld_unit_zero (S := S32x8192) hz,
    View.ld_unit_zero (S := S32x896) hz, View.ld_unit_zero (S := S896x8192) hz,
    View.ld_unit_zero (S := S32x1) hz, View.ld_unit_zero (S := S1x8192) hz]

end Cert.KernelIdeal.Hand

end
-- ==== Proof.Array.lean ====
/-
  What the kernel's output array holds after the grid has run: the block products accumulated in the order of the grid,
  then scaled, with the residual added. The one output block is the whole array and is written back once, at the last
  point.
-/
module

public import proofs.«01_k».proof.Proof.Blocks

@[expose] public section

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The accumulator after point `n`: the block products of points `0 … n`, added in that order to zero. -/
def chain (c : Dev nD) : (n : ℕ) → n < cfg0.N → Vec F S32x8192 .f32
  | 0, h => k0_pay2 (k0_pay1 (F := F)) (iblk m c 0 ⟨0, h⟩) (iblk m c 2 ⟨0, h⟩)
  | n + 1, h => k0_pay2 (chain c n (Nat.lt_of_succ_lt h)) (iblk m c 0 ⟨n + 1, h⟩) (iblk m c 2 ⟨n + 1, h⟩)

/-- Before the last point, the scratch memory holds the running sum. -/
theorem scratch_eq (c : Dev nD) : ∀ (n : ℕ) (h : n < cfg0.N), n < 32 → (outsAt0 m c n h).2 = chain m c n h
  | 0, h, _ => by
    rw [outsAt0_A m c ⟨0, h⟩ rfl (by dsimp only; omega)]
    dsimp only
    rw [scratch_first]
    rfl
  | n + 1, h, hn => by
    rw [outsAt0_B m c ⟨n + 1, h⟩ (by dsimp only; omega) (by dsimp only; omega)]
    dsimp only
    rw [scratch_middle]
    show k0_pay2 (outsAt0 m c n _).2 _ _ = k0_pay2 (chain m c n _) _ _
    rw [scratch_eq c n _ (by omega)]

/-- The last point of the grid. -/
abbrev tLast : Fin cfg0.N := ⟨32, lt_of_lt_of_eq (by decide) N_0.symm⟩

/-- The output array's final contents: the whole sum, scaled, with the residual added. -/
def result (c : Dev nD) : Vec F S32x8192 .bf16 :=
  k0_pay3 (chain m c 32 tLast.isLt) (iblk m c 1 tLast) (iblk m c 3 tLast) (iblk m c 4 tLast)

/-- The last point leaves `result` in the output block. -/
theorem output_eq (c : Dev nD) : (outsAt0 m c tLast.val tLast.isLt).1 = result m c := by
  rw [outsAt0_C m c tLast (by decide) (by decide)]
  dsimp only
  rw [output_last]
  unfold result
  show k0_pay3 (k0_pay2 (outsAt0 m c 31 _).2 _ _) _ _ _ = k0_pay3 (k0_pay2 (chain m c 31 _) _ _) _ _ _
  rw [scratch_eq m c 31 _ (by decide)]

/-- The output block lies at the origin of the array. -/
theorem index_last : win0_5.index tLast (0 : Fin 2) = 0 ∧ win0_5.index tLast (1 : Fin 2) = 0 := by decide +kernel

/-- The output block's index is the array's index. -/
theorem emb_last (j : S32x8192.Idx) : ((cfg0.win 5).blk tLast).view.emb j = j := by
  obtain ⟨e0, e1⟩ := index_last
  funext a; apply Fin.ext
  match a with
  | ⟨0, _⟩ => show win0_5.index tLast (0 : Fin 2) * 32 + 1 * (j 0).val = (j 0).val; omega
  | ⟨1, _⟩ => show win0_5.index tLast (1 : Fin 2) * 8192 + 1 * (j 1).val = (j 1).val; omega

/-- What is written back, at the last point, is `result`. -/
theorem flushed_eq (c : Dev nD) (t : Fin cfg0.N) (hf : (cfg0.win 5).flush t = true) :
    (dats m 0 c).flushed 5 t = ((cfg0.win 5).blk t).view.read (Elt F) (result m c) := by
  have hN : cfg0.N = 33 := N_0
  have h32 : t.val = 32 := by have := (flush0_5 t).mp hf; have := t.isLt; omega
  obtain rfl : t = tLast := Fin.ext h32
  show (cfg0.win 5).cut (grid0.coords tLast) ((dats m 0 c).after 5 tLast) = _
  rw [after0_5, output_eq]
  funext j
  show result m c j = result m c (((cfg0.win 5).blk tLast).view.emb j)
  rw [emb_last]

/-- The output array after the grid has run. -/
theorem array_eq (c : Dev nD) : (dats m 0 c).arrAt 5 cfg0.N = result m c :=
  (dats m 0 c).arrAt_eq_of_cover 5 (result m c) (flushed_eq m c) fun i =>
    ⟨tLast, (flush0_5 tLast).mpr rfl, by
      have h := ((cfg0.win 5).blk tLast).view.emb_mem_set i
      rwa [emb_last] at h⟩

end Cert.KernelIdeal.Hand

end
-- ==== Proof.Run.lean ====
/-
  What a run of the whole kernel leaves: its result array holds the grid's output array reshaped to three axes, and the
  five argument arrays are unchanged. Also what each block the grid reads holds in terms of the arguments.
-/
module

public import proofs.«01_k».proof.Proof.Array

@[expose] public section

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The kernel's result: the output array, reshaped. -/
def whole (c : Dev nD) : Vec F S32x1x8192 .bf16 := shapeCast S32x1x8192 (result m c) shapeCasts_S32x8192_S32x1x8192

/-- The reshape after the grid leaves `whole` in the result array. -/
theorem tail_eq (c : Dev nD) :
    Pipeline.afterTail₀ cfgs (dats m) 0 (V0 m) [hostOps1] c main_v5 = whole m c := by
  unfold Pipeline.afterTail₀
  show StableHlo.after hostOps1 _ _ = _
  unfold hostOps1
  after_results
  unfold whole
  rw [← array_eq m c]
  exact congrArg (fun z => shapeCast S32x1x8192 z shapeCasts_S32x8192_S32x1x8192)
    (Pipeline.withArrays_arr spec0 launch0.win.arr_inj c (V0 m c) (fun w => (dats m 0 c).arrAt w cfg0.N) 5)

/-- A run of the kernel: the result array at `whole`, the arguments unchanged. -/
theorem run : θ_run defs (onTc (τ := τ) (main (F := F))) ⟨m, fun _ => 0, ρ⟩ fun r => ∀ c : Dev nD,
      r.2.mem ((c : Thread nD τ).loc main_v5) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-! ## The arrays the grid reads, as the host's reshapes leave them -/

/-- The activations, with the unit axis dropped. -/
theorem V_v0 (c : Dev nD) : V m c main_v0
    = shapeCast S32x29568 (m ((c : Thread nD τ).loc main_arg0)) shapeCasts_S32x1x29568_S32x29568 := by
  show StableHlo.after hostOps0 _ _ = _
  unfold hostOps0
  after_results
  rfl

/-- The row scales, with the unit axis dropped. -/
theorem V_v1 (c : Dev nD) : V m c main_v1
    = shapeCast S32x1 (m ((c : Thread nD τ).loc main_arg1)) shapeCasts_S32x1x1_S32x1 := by
  show StableHlo.after hostOps0 _ _ = _
  unfold hostOps0
  after_results
  rfl

/-- The column scales, as one row. -/
theorem V_v2 (c : Dev nD) : V m c main_v2
    = shapeCast S1x8192 (m ((c : Thread nD τ).loc main_arg3)) shapeCasts_S8192_S1x8192 := by
  show StableHlo.after hostOps0 _ _ = _
  unfold hostOps0
  after_results
  rfl

/-- The residual, with the unit axis dropped. -/
theorem V_v3 (c : Dev nD) : V m c main_v3
    = shapeCast S32x8192 (m ((c : Thread nD τ).loc main_arg4)) shapeCasts_S32x1x8192_S32x8192 := by
  show StableHlo.after hostOps0 _ _ = _
  unfold hostOps0
  after_results
  rfl

end Cert.KernelIdeal.Hand

end
-- ==== Proof.Product.lean ====
/-
  The block product over the extended reals, and what each block the grid reads holds, element by element, in terms of
  the five arguments.
-/
module

public import proofs.«01_k».proof.Proof.Run
public import Idealize.ShloMosaic.PureOps.Ideal
public import Idealize.ShloMosaic.Lib.ValueIdx

@[expose] public section

noncomputable section

namespace Cert.KernelIdeal.Hand

open Cert.KernelIdeal Cert.KernelIdeal.Gen Idealize.ShloMosaic Idealize.ShloMosaic.TcCoe Idealize.SL.Sem
open Idealize.ShloMosaic.ValueIdx
open scoped BigOperators

/-! ## One block product -/

/-- The dimension numbers of the block product: columns of the left operand against rows of the right. -/
abbrev D := dot_S32x896_S896x8192_S32x8192_1_0_0_1_n_n

/-- The contracted positions of the block product are `0 … 895`. -/
abbrev contrD : D.contr.Idx ≃ Fin 896 := contrEquiv1 D 896 rfl rfl

/-- Position `k` of the contraction reads the left operand at the output's row and column `k`. -/
theorem lhs_idx (j : S32x8192.Idx) (k : Fin 896) : D.lhsIdx j (contrD.symm k) = ix2 (j 0) k := by
  funext a
  match a with
  | ⟨0, _⟩ => apply Fin.ext; simp [DotDims.lhsIdx, D, dot_S32x896_S896x8192_S32x8192_1_0_0_1_n_n]; rfl
  | ⟨1, _⟩ => apply Fin.ext; simp [DotDims.lhsIdx, D, dot_S32x896_S896x8192_S32x8192_1_0_0_1_n_n]; rfl

/-- Position `k` of the contraction reads the right operand at row `k` and the output's column. -/
theorem rhs_idx (j : S32x8192.Idx) (k : Fin 896) : D.rhsIdx j (contrD.symm k) = ix2 k (j 1) := by
  funext a
  match a with
  | ⟨0, _⟩ => apply Fin.ext; simp [DotDims.rhsIdx, D, dot_S32x896_S896x8192_S32x8192_1_0_0_1_n_n]; rfl
  | ⟨1, _⟩ => apply Fin.ext; simp [DotDims.rhsIdx, D, dot_S32x896_S896x8192_S32x8192_1_0_0_1_n_n]; rfl

/-- The bit pattern of `+0.0` is zero. -/
theorem ofBits_zero : Ideal.ofBits .f32 0x00000000#32 = 0 := by simp [Ideal.ofBits, Ideal.ieee]

/-- The cleared accumulator is zero everywhere. -/
theorem pay1_apply (j : S32x8192.Idx) : k0_pay1 (F := Ideal) j = 0 := by
  unfold k0_pay1
  rw [shapeCast_self]
  exact ofBits_zero

/-- One accumulation step: the accumulator's element plus the sum of the block's 896 products. -/
theorem pay2_apply (acc : Vec Ideal S32x8192 .f32) (x : Vec Ideal S32x896 .fp8e4m3) (w : Vec Ideal S896x8192 .fp8e4m3)
    (j : S32x8192.Idx) :
    k0_pay2 acc x w j = acc j + ∑ k : Fin 896, ((x (ix2 (j 0) k) : EReal) * w (ix2 k (j 1)) : EReal) := by
  unfold k0_pay2
  simp only [shapeCast_self]
  show acc j + (Ideal.ofBits .f32 0x00000000#32 + ∑ q : D.contr.Idx, x (D.lhsIdx j q) * w (D.rhsIdx j q)) = _
  rw [ofBits_zero, zero_add, ← Equiv.sum_comp contrD.symm]
  simp only [lhs_idx, rhs_idx]
  rfl

/-- The last step: the sum times its row scale times its column scale, plus the residual. -/
theorem pay3_apply (s : Vec Ideal S32x8192 .f32) (xs : Vec Ideal S32x1 .f32) (ws : Vec Ideal S1x8192 .f32)
    (r : Vec Ideal S32x8192 .bf16) (j : S32x8192.Idx) :
    k0_pay3 s xs ws r j
      = ((s j : EReal) * xs (ix2 (j 0) (0 : Fin 1)) * ws (ix2 (0 : Fin 1) (j 1)) + r j : EReal) := by
  unfold k0_pay3
  simp only [shapeCast_self]
  rw [truncf_apply, addf_apply, mulf_apply, mulf_apply, extf_apply]
  rw [broadcastTo_apply xs _ j (ix2 (j 0) (0 : Fin 1)) (fun a => by fin_cases a <;> rfl),
    broadcastTo_apply ws _ j (ix2 (0 : Fin 1) (j 1)) (fun a => by fin_cases a <;> rfl)]

/-! ## The blocks, element by element -/

variable (m : (ℓ : Loc nD τ sig) → Buf (Elt Ideal) ℓ)

/-- Block `t` of the activations starts at column `896 t`, of the weights at row `896 t`. -/
theorem index_in : ∀ t : Fin cfg0.N,
    win0_0.index t (0 : Fin 2) = 0 ∧ win0_0.index t (1 : Fin 2) = t.val
    ∧ win0_2.index t (0 : Fin 2) = t.val ∧ win0_2.index t (1 : Fin 2) = 0 :=
  (by decide +kernel : ∀ t : Fin grid0.N, _)

/-- The scales and the residual are read whole. -/
theorem index_whole :
    (win0_1.index tLast (0 : Fin 2) = 0 ∧ win0_1.index tLast (1 : Fin 2) = 0)
    ∧ (win0_3.index tLast (0 : Fin 2) = 0 ∧ win0_3.index tLast (1 : Fin 2) = 0)
    ∧ (win0_4.index tLast (0 : Fin 2) = 0 ∧ win0_4.index tLast (1 : Fin 2) = 0) := by decide +kernel

/-- Column `k` of block `t` is column `896 t + k` of the whole, which is within its 29568. -/
theorem col_lt (t : Fin cfg0.N) (k : Fin 896) : 896 * t.val + k.val < 29568 := by
  have hN : cfg0.N = 33 := N_0
  have := t.isLt; have := k.isLt; omega

/-- The activations' block `t`. -/
abbrev xBlk (c : Dev nD) (t : Fin cfg0.N) : Vec Ideal S32x896 .fp8e4m3 := iblk m c 0 t

/-- The weights' block `t`. -/
abbrev wBlk (c : Dev nD) (t : Fin cfg0.N) : Vec Ideal S896x8192 .fp8e4m3 := iblk m c 2 t

/-- The row scales, as the last point reads them. -/
abbrev xsBlk (c : Dev nD) : Vec Ideal S32x1 .f32 := iblk m c 1 tLast

/-- The column scales, as the last point reads them. -/
abbrev wsBlk (c : Dev nD) : Vec Ideal S1x8192 .f32 := iblk m c 3 tLast

/-- The residual, as the last point reads it. -/
abbrev rBlk (c : Dev nD) : Vec Ideal S32x8192 .bf16 := iblk m c 4 tLast

/-- The activations' block `t` at row `r`, column `k`. -/
theorem blk_x (c : Dev nD) (t : Fin cfg0.N) (r : Fin 32) (k : Fin 896) :
    xBlk m c t (ix2 r k)
      = m ((c : Thread nD τ).loc main_arg0) (ix3 r (0 : Fin 1) (⟨896 * t.val + k.val, col_lt t k⟩ : Fin 29568)) := by
  obtain ⟨e0, e1, -, -⟩ := index_in t
  have he : ((cfg0.win 0).blk t).view.emb (ix2 r k) = (ix2 r (⟨896 * t.val + k.val, col_lt t k⟩ : Fin 29568) : S32x29568.Idx) := by
    funext a; apply Fin.ext
    match a with
    | ⟨0, _⟩ => show win0_0.index t (0 : Fin 2) * 32 + 1 * r.val = r.val; omega
    | ⟨1, _⟩ => show win0_0.index t (1 : Fin 2) * 896 + 1 * k.val = 896 * t.val + k.val; omega
  show V m c main_v0 (((cfg0.win 0).blk t).view.emb (ix2 r k)) = _
  rw [he, V_v0]
  exact shapeCast_apply _ _ _ _ (by
    show (S32x1x29568.rowMajor _).val = (S32x29568.rowMajor _).val
    rw [Shape.rowMajor_val_three, Shape.rowMajor_val_two]
    show (r.val * 1 + 0) * 29568 + (896 * t.val + k.val) = r.val * 29568 + (896 * t.val + k.val); omega)

/-- The weights' block `t` at row `k`, column `col`. -/
theorem blk_w (c : Dev nD) (t : Fin cfg0.N) (k : Fin 896) (col : Fin 8192) :
    wBlk m c t (ix2 k col)
      = m ((c : Thread nD τ).loc main_arg2) (ix2 (⟨896 * t.val + k.val, col_lt t k⟩ : Fin 29568) col) := by
  obtain ⟨-, -, e0, e1⟩ := index_in t
  have he : ((cfg0.win 2).blk t).view.emb (ix2 k col) = (ix2 (⟨896 * t.val + k.val, col_lt t k⟩ : Fin 29568) col : S29568x8192.Idx) := by
    funext a; apply Fin.ext
    match a with
    | ⟨0, _⟩ => show win0_2.index t (0 : Fin 2) * 896 + 1 * k.val = 896 * t.val + k.val; omega
    | ⟨1, _⟩ => show win0_2.index t (1 : Fin 2) * 8192 + 1 * col.val = col.val; omega
  show V m c main_arg2 (((cfg0.win 2).blk t).view.emb (ix2 k col)) = _
  rw [he, V_main_arg2]

/-- The row scales at row `r`. -/
theorem blk_xs (c : Dev nD) (r : Fin 32) :
    xsBlk m c (ix2 r (0 : Fin 1))
      = m ((c : Thread nD τ).loc main_arg1) (ix3 r (0 : Fin 1) (0 : Fin 1)) := by
  obtain ⟨⟨e0, e1⟩, -, -⟩ := index_whole
  have he : ((cfg0.win 1).blk tLast).view.emb (ix2 r (0 : Fin 1)) = (ix2 r (0 : Fin 1) : S32x1.Idx) := by
    funext a; apply Fin.ext
    match a with
    | ⟨0, _⟩ => show win0_1.index tLast (0 : Fin 2) * 32 + 1 * r.val = r.val; omega
    | ⟨1, _⟩ => show win0_1.index tLast (1 : Fin 2) * 1 + 1 * 0 = 0; omega
  show V m c main_v1 (((cfg0.win 1).blk tLast).view.emb (ix2 r (0 : Fin 1))) = _
  rw [he, V_v1]
  exact shapeCast_apply _ _ _ _ (by
    show (S32x1x1.rowMajor _).val = (S32x1.rowMajor _).val
    rw [Shape.rowMajor_val_three, Shape.rowMajor_val_two]
    show (r.val * 1 + 0) * 1 + 0 = r.val * 1 + 0; omega)

/-- The column scales at column `col`. -/
theorem blk_ws (c : Dev nD) (col : Fin 8192) :
    wsBlk m c (ix2 (0 : Fin 1) col)
      = m ((c : Thread nD τ).loc main_arg3) (ix1 col) := by
  obtain ⟨-, ⟨e0, e1⟩, -⟩ := index_whole
  have he : ((cfg0.win 3).blk tLast).view.emb (ix2 (0 : Fin 1) col) = (ix2 (0 : Fin 1) col : S1x8192.Idx) := by
    funext a; apply Fin.ext
    match a with
    | ⟨0, _⟩ => show win0_3.index tLast (0 : Fin 2) * 1 + 1 * 0 = 0; omega
    | ⟨1, _⟩ => show win0_3.index tLast (1 : Fin 2) * 8192 + 1 * col.val = col.val; omega
  show V m c main_v2 (((cfg0.win 3).blk tLast).view.emb (ix2 (0 : Fin 1) col)) = _
  rw [he, V_v2]
  exact shapeCast_apply _ _ _ _ (by
    show (S8192.rowMajor _).val = (S1x8192.rowMajor _).val
    rw [Shape.rowMajor_val_one, Shape.rowMajor_val_two]
    show col.val = 0 * 8192 + col.val; omega)

/-- The residual at row `r`, column `col`. -/
theorem blk_r (c : Dev nD) (r : Fin 32) (col : Fin 8192) :
    rBlk m c (ix2 r col)
      = m ((c : Thread nD τ).loc main_arg4) (ix3 r (0 : Fin 1) col) := by
  obtain ⟨-, -, e0, e1⟩ := index_whole
  have he : ((cfg0.win 4).blk tLast).view.emb (ix2 r col) = (ix2 r col : S32x8192.Idx) := by
    funext a; apply Fin.ext
    match a with
    | ⟨0, _⟩ => show win0_4.index tLast (0 : Fin 2) * 32 + 1 * r.val = r.val; omega
    | ⟨1, _⟩ => show win0_4.index tLast (1 : Fin 2) * 8192 + 1 * col.val = col.val; omega
  show V m c main_v3 (((cfg0.win 4).blk tLast).view.emb (ix2 r col)) = _
  rw [he, V_v3]
  exact shapeCast_apply _ _ _ _ (by
    show (S32x1x8192.rowMajor _).val = (S32x8192.rowMajor _).val
    rw [Shape.rowMajor_val_three, Shape.rowMajor_val_two]
    show (r.val * 1 + 0) * 8192 + col.val = r.val * 8192 + col.val; omega)

end Cert.KernelIdeal.Hand

end
-- ==== Proof.Sum.lean ====
/-
  The kernel's result, element by element: the accumulated block products are one sum over the whole contracted axis.
-/
module

public import proofs.«01_k».proof.Proof.Product

@[expose] public section

noncomputable section

namespace Cert.KernelIdeal.Hand

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ)

/-- The product the contraction takes at position `k`, for row `r` and column `col`: activation times weight. -/
def term (x : Vec Ideal S32x1x29568 .fp8e4m3) (w : Vec Ideal S29568x8192 .fp8e4m3) (r : Fin 32) (col : Fin 8192)
    (k : Fin 29568) : EReal :=
  x (ix3 r (0 : Fin 1) k) * w (ix2 k col)

/-- The first `n + 1` blocks of 896 positions lie within the contracted axis. -/
theorem width_le {n : ℕ} (h : n < cfg0.N) : 896 * (n + 1) ≤ 29568 := by
  have hN : cfg0.N = 33 := N_0
  omega

/-- The block product of point `t` is the sum of the terms at positions `896 t … 896 t + 895`. -/
theorem block_eq (c : Dev nD) (t : Fin cfg0.N) (r : Fin 32) (col : Fin 8192) :
    (∑ k : Fin 896, ((xBlk m c t (ix2 r k) : EReal) * wBlk m c t (ix2 k col) : EReal))
      = ∑ k : Fin 896, term (m ((c : Thread nD τ).loc main_arg0)) (m ((c : Thread nD τ).loc main_arg2)) r col
          ⟨896 * t.val + k.val, col_lt t k⟩ := by
  refine Finset.sum_congr rfl fun k _ => ?_
  rw [blk_x, blk_w]
  rfl

/-- After point `n` the accumulator holds, at each row and column, the sum of the first `896 (n + 1)` terms. -/
theorem chain_apply (c : Dev nD) (r : Fin 32) (col : Fin 8192) : ∀ (n : ℕ) (h : n < cfg0.N),
    chain m c n h (ix2 r col)
      = ∑ k : Fin (896 * (n + 1)), term (m ((c : Thread nD τ).loc main_arg0)) (m ((c : Thread nD τ).loc main_arg2)) r col
          (Fin.castLE (width_le h) k)
  | 0, h => by
    show k0_pay2 _ _ _ (ix2 r col) = _
    rw [pay2_apply, pay1_apply, zero_add]
    refine (block_eq m c ⟨0, h⟩ r col).trans (Finset.sum_congr rfl fun k _ => congrArg _ (Fin.ext ?_))
    show 896 * 0 + k.val = k.val
    omega
  | n + 1, h => by
    show k0_pay2 (chain m c n _) _ _ (ix2 r col) = _
    rw [pay2_apply, chain_apply c r col n]
    refine (congrArg _ (block_eq m c ⟨n + 1, h⟩ r col)).trans ?_
    exact (Fin.sum_univ_add (a := 896 * (n + 1)) (b := 896) fun k =>
      term (m ((c : Thread nD τ).loc main_arg0)) (m ((c : Thread nD τ).loc main_arg2)) r col (Fin.castLE (width_le h) k)).symm

/-- The specification both programs meet, element by element: the sum over the contracted axis of activation times
    weight, times the row's scale, times the column's scale, plus the residual. -/
def spec (x : Vec Ideal S32x1x29568 .fp8e4m3) (xs : Vec Ideal S32x1x1 .f32) (w : Vec Ideal S29568x8192 .fp8e4m3)
    (ws : Vec Ideal S8192 .f32) (res : Vec Ideal S32x1x8192 .bf16) (r : Fin 32) (col : Fin 8192) : EReal :=
  (∑ k : Fin 29568, term x w r col k) * xs (ix3 r (0 : Fin 1) (0 : Fin 1)) * ws (ix1 col) + res (ix3 r (0 : Fin 1) col)

/-- The output array, element by element. -/
theorem result_apply (c : Dev nD) (r : Fin 32) (col : Fin 8192) :
    result m c (ix2 r col)
      = spec (m ((c : Thread nD τ).loc main_arg0)) (m ((c : Thread nD τ).loc main_arg1)) (m ((c : Thread nD τ).loc main_arg2))
          (m ((c : Thread nD τ).loc main_arg3)) (m ((c : Thread nD τ).loc main_arg4)) r col := by
  unfold result spec
  rw [pay3_apply]
  show ((chain m c 32 _ (ix2 r col) : EReal) * xsBlk m c (ix2 r (0 : Fin 1)) * wsBlk m c (ix2 (0 : Fin 1) col)
    + rBlk m c (ix2 r col) : EReal) = _
  rw [chain_apply, blk_xs, blk_ws, blk_r]
  rfl

/-- The kernel's result, element by element. -/
theorem whole_apply (c : Dev nD) (r : Fin 32) (col : Fin 8192) :
    whole m c (ix3 r (0 : Fin 1) col)
      = spec (m ((c : Thread nD τ).loc main_arg0)) (m ((c : Thread nD τ).loc main_arg1)) (m ((c : Thread nD τ).loc main_arg2))
          (m ((c : Thread nD τ).loc main_arg3)) (m ((c : Thread nD τ).loc main_arg4)) r col := by
  refine Eq.trans ?_ (result_apply m c r col)
  unfold whole
  exact shapeCast_apply _ _ _ _ (by
    rw [Shape.rowMajor_val_two, Shape.rowMajor_val_three]
    show r.val * 8192 + col.val = (r.val * 1 + 0) * 8192 + col.val; omega)

end Cert.KernelIdeal.Hand

end
-- ==== Proof.Reference.lean ====
/-
  The reference's result, element by element, over the extended reals: one sum over the contracted axis, scaled, with
  the residual added.
-/
module

public import proofs.«01_k».proof.Proof.Gen.ReferenceIdeal.Value
public import Idealize.ShloMosaic.PureOps.Ideal
public import Idealize.ShloMosaic.Lib.ValueIdx

@[expose] public section

noncomputable section

namespace Cert.ReferenceIdeal.Hand

open Cert.ReferenceIdeal Cert.ReferenceIdeal.Gen Idealize.ShloMosaic Idealize.ShloMosaic.TcCoe Idealize.SL.Sem
open Idealize.ShloMosaic.ValueIdx
open scoped BigOperators

/-- The dimension numbers of the reference's product. -/
abbrev D := dot_S32x1x29568_S29568x8192_S32x1x8192_2_0_01_1_n_n

/-- The contracted positions are `0 … 29567`. -/
abbrev contrD : D.contr.Idx ≃ Fin 29568 := contrEquiv1 D 29568 rfl rfl

/-- Position `k` of the contraction reads the activations at the output's row and column `k`. -/
theorem lhs_idx (j : S32x1x8192.Idx) (k : Fin 29568) : D.lhsIdx j (contrD.symm k) = ix3 (j 0) (j 1) k := by
  funext a
  match a with
  | ⟨0, _⟩ => apply Fin.ext; simp [DotDims.lhsIdx, D, dot_S32x1x29568_S29568x8192_S32x1x8192_2_0_01_1_n_n]; rfl
  | ⟨1, _⟩ => apply Fin.ext; simp [DotDims.lhsIdx, D, dot_S32x1x29568_S29568x8192_S32x1x8192_2_0_01_1_n_n]
              have h : (j 1).val < 1 := (j 1).isLt
              show 0 = (j 1).val; omega
  | ⟨2, _⟩ => apply Fin.ext; simp [DotDims.lhsIdx, D, dot_S32x1x29568_S29568x8192_S32x1x8192_2_0_01_1_n_n]; rfl

/-- Position `k` of the contraction reads the weights at row `k` and the output's column. -/
theorem rhs_idx (j : S32x1x8192.Idx) (k : Fin 29568) : D.rhsIdx j (contrD.symm k) = ix2 k (j 2) := by
  funext a
  match a with
  | ⟨0, _⟩ => apply Fin.ext; simp [DotDims.rhsIdx, D, dot_S32x1x29568_S29568x8192_S32x1x8192_2_0_01_1_n_n]; rfl
  | ⟨1, _⟩ => apply Fin.ext; simp [DotDims.rhsIdx, D, dot_S32x1x29568_S29568x8192_S32x1x8192_2_0_01_1_n_n]; rfl

/-- The bit pattern of `+0.0` is zero. -/
theorem ofBits_zero : Ideal.ofBits .f32 0x00000000#32 = 0 := by simp [Ideal.ofBits, Ideal.ieee]

/-- The product at row `r`, column `col`. -/
theorem product_apply (x : Vec Ideal S32x1x29568 .fp8e4m3) (w : Vec Ideal S29568x8192 .fp8e4m3) (r : Fin 32) (col : Fin 8192) :
    (matmul (φ₁ := .fp8e4m3) (φ₂ := .fp8e4m3) D none x w (constant S32x1x8192 .f32 0x00000000#32) : FVec Ideal S32x1x8192 .f32) (ix3 r (0 : Fin 1) col)
      = ∑ k : Fin 29568, (x (ix3 r (0 : Fin 1) k) * w (ix2 k col) : EReal) := by
  show (Ideal.ofBits .f32 0x00000000#32 + ∑ q : D.contr.Idx, x (D.lhsIdx _ q) * w (D.rhsIdx _ q)) = _
  rw [ofBits_zero, zero_add, ← Equiv.sum_comp contrD.symm]
  simp only [lhs_idx, rhs_idx]
  rfl

/-- The reference's result at row `r`, column `col`. -/
theorem result_apply (x : Vec Ideal S32x1x29568 .fp8e4m3) (xs : Vec Ideal S32x1x1 .f32) (w : Vec Ideal S29568x8192 .fp8e4m3)
    (ws : Vec Ideal S8192 .f32) (res : Vec Ideal S32x1x8192 .bf16) (r : Fin 32) (col : Fin 8192) :
    Value.G5 (F := Ideal) x xs w ws res (ix3 r (0 : Fin 1) col)
      = ((∑ k : Fin 29568, (x (ix3 r (0 : Fin 1) k) * w (ix2 k col) : EReal)) * xs (ix3 r (0 : Fin 1) (0 : Fin 1)) * ws (ix1 col)
          + res (ix3 r (0 : Fin 1) col) : EReal) := by
  unfold Value.G5 k0_pay1
  rw [truncf_apply, addf_apply, mulf_apply, mulf_apply, extf_apply, product_apply,
    broadcastTo_apply xs _ (ix3 r (0 : Fin 1) col) (ix3 r (0 : Fin 1) (0 : Fin 1)) (fun a => by fin_cases a <;> rfl),
    broadcastTo_apply (shapeCast S1x1x8192 ws _) _ (ix3 r (0 : Fin 1) col) (ix3 (0 : Fin 1) (0 : Fin 1) col)
      (fun a => by fin_cases a <;> rfl),
    shapeCast_apply ws _ (ix3 (0 : Fin 1) (0 : Fin 1) col) (ix1 col) (by
      rw [Shape.rowMajor_val_one, Shape.rowMajor_val_three]
      show col.val = (0 * 1 + 0) * 8192 + col.val; omega)]

end Cert.ReferenceIdeal.Hand

end
-- ==== Proof.Equal.lean ====
/-
  The two results are equal: over the extended reals the kernel and the reference compute the same element at every
  index. The only law used is that a finite sum may be taken block by block.
-/
module

public import proofs.«01_k».proof.Proof.Sum
public import proofs.«01_k».proof.Proof.Reference

@[expose] public section

noncomputable section

namespace Cert.Proof

open Idealize.ShloMosaic Idealize.ShloMosaic.TcCoe Idealize.SL.Sem Idealize.ShloMosaic.ValueIdx
open Cert.KernelIdeal

variable (m : (ℓ : Loc nD τ sig) → Buf (Elt Ideal) ℓ)

/-- Every index of the result is a row and a column; the middle axis has one position. -/
theorem idx_eq (j : S32x1x8192.Idx) : j = ix3 (j 0) (0 : Fin 1) (j 2) := by
  funext a
  match a with
  | ⟨0, _⟩ => rfl
  | ⟨1, _⟩ =>
    apply Fin.ext
    have h : (j 1).val < 1 := (j 1).isLt
    show (j 1).val = 0
    omega
  | ⟨2, _⟩ => rfl

/-- The kernel's result is the reference's function of the same arguments. -/
theorem whole_eq (c : Dev nD) :
    Cert.KernelIdeal.Hand.whole m c
      = Cert.ReferenceIdeal.Value.G5 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  funext j
  rw [idx_eq j]
  exact (Cert.KernelIdeal.Hand.whole_apply m c (j 0) (j 2)).trans
    (Cert.ReferenceIdeal.Hand.result_apply _ _ _ _ _ (j 0) (j 2)).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

/-- From memories that agree on the arguments, the kernel and the reference both run, end with equal results and leave
    their arguments unchanged. -/
theorem algebraic : @Cert.algebraic_KernelIdeal_ReferenceIdeal Cert.KernelIdeal.Gen.facts Cert.ReferenceIdeal.Gen.facts := by
  intro m g m' g' _ hargs
  refine ⟨fun c => Cert.KernelIdeal.Hand.whole m c, Cert.KernelIdeal.Hand.run m g, ?_⟩
  refine (θ_run Cert.ReferenceIdeal.defs _ _).mono (fun r h c => ?_) (Cert.ReferenceIdeal.Value.run m' g')
  obtain ⟨hv, hkept⟩ := h c
  obtain ⟨h0, h1, h2, h3, h4⟩ := hargs c
  refine ⟨hv.trans ?_, hkept⟩
  refine Eq.trans ?_ (whole_eq m c).symm
  exact congr (congr (congr (congr (congrArg (Cert.ReferenceIdeal.Value.G5 (F := Ideal)) h0) h1) h2) h3) h4

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
